-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x26 : Shape := ⟨2, ![4096, 26]⟩
abbrev S4096x26x1000 : Shape := ⟨3, ![4096, 26, 1000]⟩
abbrev S128x26 : Shape := ⟨2, ![128, 26]⟩
abbrev S128x26x1000 : Shape := ⟨3, ![128, 26, 1000]⟩
abbrev S128x26x1 : Shape := ⟨3, ![128, 26, 1]⟩

abbrev nBuf : Space → Nat
  | .hbm => 2
  | .vmem => 4
  | .smem => 0
  | _ => 0

abbrev bufTy : (tb : Table) → Fin (tcTables nBuf tb) → BufTy
  | .hbm, ⟨0, _⟩ => ⟨S4096x26, .i32⟩
  | .hbm, ⟨1, _⟩ => ⟨S4096x26x1000, .f32⟩
  | .local _ .vmem, ⟨0, _⟩ => ⟨S128x26, .i32⟩
  | .local _ .vmem, ⟨1, _⟩ => ⟨S128x26, .i32⟩
  | .local _ .vmem, ⟨2, _⟩ => ⟨S128x26x1000, .f32⟩
  | .local _ .vmem, ⟨3, _⟩ => ⟨S128x26x1000, .f32⟩
  | _, _ => ⟨S4096x26, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x26 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x26x1000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S4096x26 : Shape := ⟨2, ![4096, 26]⟩
abbrev S4096x26x1 : Shape := ⟨3, ![4096, 26, 1]⟩
abbrev S1x1x1000 : Shape := ⟨3, ![1, 1, 1000]⟩
abbrev S4096x26x1000 : Shape := ⟨3, ![4096, 26, 1000]⟩

abbrev nBuf : Space → Nat
  | .hbm => 7
  | .vmem => 0
  | .smem => 0
  | _ => 0

abbrev bufTy : (tb : Table) → Fin (tcTables nBuf tb) → BufTy
  | .hbm, ⟨0, _⟩ => ⟨S4096x26, .i32⟩
  | .hbm, ⟨1, _⟩ => ⟨S4096x26x1, .i32⟩
  | .hbm, ⟨2, _⟩ => ⟨S1x1x1000, .i32⟩
  | .hbm, ⟨3, _⟩ => ⟨S4096x26x1000, .i32⟩
  | .hbm, ⟨4, _⟩ => ⟨S4096x26x1000, .i32⟩
  | .hbm, ⟨5, _⟩ => ⟨S4096x26x1000, .i1⟩
  | .hbm, ⟨6, _⟩ => ⟨S4096x26x1000, .f32⟩
  | _, _ => ⟨S4096x26, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_call0_v2 : Ref sig .tc := ⟨.hbm, 3, rfl⟩
abbrev main_call0_v3 : Ref sig .tc := ⟨.hbm, 4, rfl⟩
abbrev main_call0_v4 : Ref sig .tc := ⟨.hbm, 5, rfl⟩
abbrev main_v0 : Ref sig .tc := ⟨.hbm, 6, rfl⟩

abbrev nD : Nat := 1
abbrev τ : Topo := Topo.v7x

variable {F : FTy → Type} [FloatOps F]
-- ==== Proof.OneHot.Spec.lean ====
/-
  The mathematics: the one-hot encoding of a table of words, as a function of the table.
-/
module

public import Idealize.ShloMosaic.PureOps.Ideal
public import Idealize.ShloMosaic.Lib.ValueIdxCore

@[expose] public section

noncomputable section

namespace Cert.OneHot

open Idealize.ShloMosaic Idealize.ShloMosaic.ValueIdx

/-- The one-hot encoding at depth `d` of an `a × b` table `x` of 32-bit words: the entry at `(p, q, k)` is 1 where
    the word at `(p, q)` is the number `k`, and 0 elsewhere. A word that is no number below `d` has a row of zeros. -/
def hot {a b d : Nat} (x : (⟨2, ![a, b]⟩ : Shape).Idx → BitVec 32) (i : (⟨3, ![a, b, d]⟩ : Shape).Idx) : EReal :=
  if x (ix2 (i 0) (i 1)) = BitVec.ofNat 32 (i 2).val then 1 else 0

/-- A comparison bit for equality, read as an unsigned number, is 1 where the words are equal and 0 elsewhere. -/
theorem bit_eq (u v : BitVec 32) : (((IntOp.cmpi .eq u v).toNat : ℝ) : EReal) = if u = v then 1 else 0 := by
  by_cases h : u = v
  · simp [IntOp.cmpi, h]
  · simp [IntOp.cmpi, h]

/-- The same for the bit widened to a 32-bit word and read as a signed number. -/
theorem wide_bit_eq (u v : BitVec 32) :
    ((((IntOp.cmpi .eq u v).setWidth 32).toInt : ℝ) : EReal) = if u = v then 1 else 0 := by
  by_cases h : u = v
  · simp [IntOp.cmpi, h]
  · have hb : (u == v) = false := beq_false_of_ne h
    simp [IntOp.cmpi, h, hb]

end Cert.OneHot

end
-- ==== Proof.OneHot.Kernel.lean ====
/-
  The kernel over the extended reals: what one grid point's body computes, what its block of the result is, and
  the whole result array, which is the one-hot encoding of the argument.
-/
module

public import proofs.«01_k».proof.Proof.Gen.KernelIdeal.Value
public import proofs.«01_k».proof.Proof.OneHot.Spec
public import Idealize.ShloMosaic.Lib.Pipeline.ValueKit

@[expose] public section

noncomputable section

namespace Cert.KernelIdeal.Hot

open Cert.KernelIdeal Cert.KernelIdeal.Gen Idealize.ShloMosaic Idealize.ShloMosaic.TcCoe
open Idealize.SL.Sem
open Idealize.ShloMosaic.Pipeline (Dat)

variable (m : (ℓ : Loc nD τ sig) → Buf (Elt Ideal) ℓ) (ρ : Dev nD → PrngReg)

/-- The block of indices with a trailing unit axis added and then repeated along the depth reads, at `(p, q, k)`, the
    word at `(p, q)`. -/
theorem block_apply (x : IVec S128x26 32) (j : S128x26x1000.Idx) :
    broadcastTo S128x26x1000 (shapeCast S128x26x1 x Facts₀.shapeCasts_S128x26_S128x26x1)
      Facts₀.broadcasts_S128x26x1_S128x26x1000 j = x (ValueIdx.ix2 (j 0) (j 1)) := by
  refine (broadcastTo_apply _ _ j (ValueIdx.ix3 (j 0) (j 1) (0 : Fin 1)) fun a => ?_).trans
    (shapeCast_apply _ _ _ (ValueIdx.ix2 (j 0) (j 1)) ?_)
  · match a with
    | ⟨0, _⟩ => rfl
    | ⟨1, _⟩ => rfl
    | ⟨2, _⟩ => rfl
  · refine (Shape.rowMajor_val_two _).trans (Eq.trans ?_ (Shape.rowMajor_val_three _).symm)
    show (j 0).val * 26 + (j 1).val = ((j 0).val * 26 + (j 1).val) * 1 + 0
    omega

/-- What one grid point's body stores, of the block of indices it loads, is that block's one-hot encoding. -/
theorem pay_eq (x : IVec S128x26 32) : k0_pay1 (F := Ideal) x = OneHot.hot x := by
  funext j
  show ((((IntOp.cmpi .eq _ _).setWidth 32).toInt : ℝ) : EReal) = _
  rw [block_apply, iota_single_apply]
  exact OneHot.wide_bit_eq _ _

/-- What a grid point leaves in the result's staging buffer: its one store fills the buffer. -/
theorem out_eq (x : IVec S128x26 32) : out0_1 (F := Ideal) x = OneHot.hot x := by
  have h2 : (![0, 0] : Fin 2 → Nat) = fun _ => 0 := funext fun a => by fin_cases a <;> rfl
  have h3 : (![0, 0, 0] : Fin 3 → Nat) = fun _ => 0 := funext fun a => by fin_cases a <;> rfl
  unfold out0_1
  rw [View.canon_unit_zero h3, View.ld_unit_zero h2, pay_eq]

/-- Point `t`'s blocks: both windows are at rows `128 t`, whole on every other axis. -/
theorem idx (t : Fin cfg0.N) : win0_0.index t 0 = t.val ∧ win0_0.index t 1 = 0
    ∧ win0_1.index t 0 = t.val ∧ win0_1.index t 1 = 0 ∧ win0_1.index t 2 = 0 :=
  (by decide +kernel : ∀ t : Fin grid0.N, win0_0.index t 0 = t.val ∧ win0_0.index t 1 = 0
    ∧ win0_1.index t 0 = t.val ∧ win0_1.index t 1 = 0 ∧ win0_1.index t 2 = 0) t

/-- The whole-array one-hot encoding of device `c`'s argument. -/
abbrev G (c : Dev nD) : Buf (Elt Ideal) ((c : Thread nD τ).loc main_v0) :=
  OneHot.hot (d := 1000) (m ((c : Thread nD τ).loc main_arg0))

/-- What point `t` writes back is block `t` of the whole-array encoding: the encoding of rows `128 t` to `128 t + 127` of the
    table is those rows of the table's encoding. -/
theorem flushed_eq (c : Dev nD) (t : Fin cfg0.N) :
    (dats m 0 c).flushed 1 t = ((cfg0.win 1).blk t).view.read (Elt Ideal) (G m c) := by
  rw [Value.flushed1, out_eq]
  obtain ⟨e0, e1, f0, f1, f2⟩ := idx t
  funext j
  show OneHot.hot (iblk m c 0 t) j = OneHot.hot (m ((c : Thread nD τ).loc main_arg0)) ((win0_1.rect t).emb j)
  have key : (win0_0.rect t).emb (ValueIdx.ix2 (j 0) (j 1)) = ValueIdx.ix2 ((win0_1.rect t).emb j 0) ((win0_1.rect t).emb j 1) := by
    refine Shape.idx_ext₂ ?_ ?_
    · show ((win0_0.rect t).emb (ValueIdx.ix2 (j 0) (j 1)) 0 : ℕ) = ((win0_1.rect t).emb j 0 : ℕ)
      rw [Pipeline.Window.rect_emb_val win0_0 t _ _ rfl, Pipeline.Window.rect_emb_val win0_1 t _ _ rfl, e0, f0]; rfl
    · show ((win0_0.rect t).emb (ValueIdx.ix2 (j 0) (j 1)) 1 : ℕ) = ((win0_1.rect t).emb j 1 : ℕ)
      rw [Pipeline.Window.rect_emb_val win0_0 t _ _ rfl, Pipeline.Window.rect_emb_val win0_1 t _ _ rfl, e1, f1]; rfl
  have k2 : ((win0_1.rect t).emb j 2 : ℕ) = (j 2 : ℕ) := by
    exact Pipeline.Window.rect_emb_val_of_index_zero win0_1 t 2 f2 j
  unfold OneHot.hot
  rw [k2]
  exact congrArg (fun w : BitVec 32 => if w = BitVec.ofNat 32 (j 2).val then (1 : EReal) else 0)
    (congrArg (m ((c : Thread nD τ).loc main_arg0)) key)

/-- The blocks tile the result: row `r` is in the block of point `r / 128`. -/
theorem cover (i : S4096x26x1000.Idx) :
    ∃ t : Fin cfg0.N, (cfg0.win 1).flush t = true ∧ i ∈ ((cfg0.win 1).blk t).view.set := by
  have h0 : (i 0 : ℕ) < 4096 := (i 0).isLt
  have h1 : (i 1 : ℕ) < 26 := (i 1).isLt
  have h2 : (i 2 : ℕ) < 1000 := (i 2).isLt
  have hN : cfg0.N = 32 := N_0
  let t : Fin cfg0.N := ⟨(i 0 : ℕ) / 128, by omega⟩
  have ht : t.val = (i 0 : ℕ) / 128 := rfl
  obtain ⟨-, -, f0, f1, f2⟩ := idx t
  refine ⟨t, flush0_1 _, ?_⟩
  show i ∈ ((View.whole main_v0).slice (win0_1.rect t)).set
  rw [View.set_slice_whole]
  refine (Pipeline.Window.mem_rect_iff win0_1 t i rfl).mpr fun a => ?_
  match a with
  | ⟨0, _⟩ =>
    show win0_1.index t 0 * 128 ≤ (i 0 : ℕ) ∧ (i 0 : ℕ) < win0_1.index t 0 * 128 + 128
    rw [f0, ht]; omega
  | ⟨1, _⟩ =>
    show win0_1.index t 1 * 26 ≤ (i 1 : ℕ) ∧ (i 1 : ℕ) < win0_1.index t 1 * 26 + 26
    rw [f1]; omega
  | ⟨2, _⟩ =>
    show win0_1.index t 2 * 1000 ≤ (i 2 : ℕ) ∧ (i 2 : ℕ) < win0_1.index t 2 * 1000 + 1000
    rw [f2]; omega

/-- So the result array ends at the one-hot encoding of the argument. -/
theorem final (c : Dev nD) : (dats m 0 c).arrAt 1 cfg0.N = G m c :=
  (dats m 0 c).arrAt_eq_of_cover 1 (G m c) (fun t _ => flushed_eq m c t) cover

/-- The kernel's run: its result array ends at the one-hot encoding of its argument, which ends unchanged. -/
theorem run : θ_run defs (onTc (τ := τ) (main (F := Ideal))) ⟨m, fun _ => 0, ρ⟩ fun r => ∀ c : Dev nD,
      r.2.mem ((c.tc : Thread nD τ).loc main_v0) = G m c
      ∧ r.2.mem ((c.tc : Thread nD τ).loc main_arg0) = m ((c.tc : Thread nD τ).loc main_arg0) :=
  (θ_run defs _ _).mono (fun _ h c => ⟨(h c).1.trans (final m c), (h c).2⟩) (Value.run_blocks m ρ)

end Cert.KernelIdeal.Hot

end
-- ==== Proof.OneHot.Reference.lean ====
/-
  The reference: its composed host operations are the one-hot encoding of its argument.
-/
module

public import proofs.«01_k».proof.Proof.Gen.ReferenceIdeal.Run
public import proofs.«01_k».proof.Proof.OneHot.Spec
public import Idealize.ShloMosaic.Lib.Pipeline.Value

@[expose] public section

noncomputable section

namespace Cert.ReferenceIdeal.Hot

open Cert.ReferenceIdeal Cert.ReferenceIdeal.Gen Idealize.ShloMosaic Idealize.ShloMosaic.TcCoe
open Idealize.ShloMosaic.ValueIdx Idealize.SL.Sem

variable (m : (ℓ : Loc nD τ sig) → Buf (Elt Ideal) ℓ) (ρ : Dev nD → PrngReg)

/-- The table with a trailing unit axis added and then repeated along the depth reads, at `(p, q, k)`, the word at `(p, q)`. -/
theorem table_apply (x : IVec S4096x26 32) (i : S4096x26x1000.Idx) :
    broadcastInDim S4096x26x1000 ![0, 1, 2] Facts₀.bcast_S4096x26x1_S4096x26x1000_0_1_2
      (broadcastInDim S4096x26x1 ![0, 1] Facts₀.bcast_S4096x26_S4096x26x1_0_1 x) i = x (ix2 (i 0) (i 1)) := by
  refine (broadcastInDim_apply _ _ _ i (ix3 (i 0) (i 1) (0 : Fin 1)) fun a => ?_).trans
    (broadcastInDim_apply _ _ _ _ (ix2 (i 0) (i 1)) fun a => ?_)
  · match a with
    | ⟨0, _⟩ => rfl
    | ⟨1, _⟩ => rfl
    | ⟨2, _⟩ => rfl
  · match a with
    | ⟨0, _⟩ => rfl
    | ⟨1, _⟩ => rfl

/-- The depth's numbers repeated over the table read, at `(p, q, k)`, the number `k`. -/
theorem numbers_apply (i : S4096x26x1000.Idx) :
    broadcastInDim S4096x26x1000 ![0, 1, 2] Facts₀.bcast_S1x1x1000_S4096x26x1000_0_1_2 (iotaInDim S1x1x1000 32 2) i
      = BitVec.ofNat 32 (i 2).val := by
  refine broadcastInDim_apply _ _ _ i (ix3 (0 : Fin 1) (0 : Fin 1) (i 2)) fun a => ?_
  match a with
  | ⟨0, _⟩ => rfl
  | ⟨1, _⟩ => rfl
  | ⟨2, _⟩ => rfl

/-- The reference's run: its result array ends at the one-hot encoding of its argument, which ends unchanged. -/
theorem run : θ_run defs (onTc (τ := τ) (main (F := Ideal))) ⟨m, fun _ => 0, ρ⟩ fun r => ∀ c : Dev nD,
      r.2.mem ((c.tc : Thread nD τ).loc main_v0) = OneHot.hot (d := 1000) (m ((c.tc : Thread nD τ).loc main_arg0))
      ∧ r.2.mem ((c.tc : Thread nD τ).loc main_arg0) = m ((c.tc : Thread nD τ).loc main_arg0) := by
  refine (θ_run defs _ _).mono (fun _ h c => ⟨(h c).1.trans ?_, (h c).2⟩) (Value.run (F := Ideal) m ρ)
  funext i
  show (((IntOp.cmpi .eq _ _).toNat : ℝ) : EReal) = _
  rw [table_apply, numbers_apply]
  exact OneHot.bit_eq _ _

end Cert.ReferenceIdeal.Hot

end
-- ==== Proof.lean ====
/-
  The certificate of the blocked one-hot kernel against `jax.nn.one_hot`: the three programs' frames, the kernel's
  idealization, and that kernel and reference compute one function over the extended reals, the one-hot encoding
  (`Cert.OneHot.hot`). Proof/OneHot has the mathematics; this file assembles.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.OneHot.Kernel
public import proofs.«01_k».proof.Proof.OneHot.Reference
public import Idealize.ShloMosaic.Lib.Quiescent
public import Idealize.ShloMosaic.Adequacy
public import Idealize.ShloMosaic.Init

@[expose] public section

noncomputable section

namespace Cert.Proof

open Idealize.ShloMosaic Idealize.SL.Sem

/-- The reference runs, leaves its argument unchanged and, having no semaphore, every counter at zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Kernel and reference end at the one-hot encoding of the same argument. -/
theorem algebraic : Cert.algebraic_KernelIdeal_ReferenceIdeal := by
  intro m ρ m' ρ' _ hagree
  refine ⟨fun c => Cert.KernelIdeal.Hot.G m c, Cert.KernelIdeal.Hot.run m ρ, ?_⟩
  refine (θ_run Cert.ReferenceIdeal.defs _ _).mono (fun _ h c => ⟨(h c).1.trans ?_, (h c).2⟩)
    (Cert.ReferenceIdeal.Hot.run m' ρ')
  rw [hagree c]

/-- Every claim of the certificate. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, frame_reference, trivial, algebraic⟩

end Cert.Proof

end
